-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x4480 : Shape := ⟨3, ![2, 4096, 4480]⟩
abbrev S2x4096x1 : Shape := ⟨3, ![2, 4096, 1]⟩
abbrev S4480x5120 : Shape := ⟨2, ![4480, 5120]⟩
abbrev S5120 : Shape := ⟨1, ![5120]⟩
abbrev S2x4096x5120 : Shape := ⟨3, ![2, 4096, 5120]⟩
abbrev S8192x4480 : Shape := ⟨2, ![8192, 4480]⟩
abbrev S8192x1 : Shape := ⟨2, ![8192, 1]⟩
abbrev S1x5120 : Shape := ⟨2, ![1, 5120]⟩
abbrev S8192x5120 : Shape := ⟨2, ![8192, 5120]⟩
abbrev S1024x4480 : Shape := ⟨2, ![1024, 4480]⟩
abbrev S1024x1 : Shape := ⟨2, ![1024, 1]⟩
abbrev S4480x2560 : Shape := ⟨2, ![4480, 2560]⟩
abbrev S1x2560 : Shape := ⟨2, ![1, 2560]⟩
abbrev S1024x2560 : Shape := ⟨2, ![1024, 2560]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x4480, .fp8e4m3⟩
  | .hbm, ⟨1, _⟩ => ⟨S2x4096x1, .f32⟩
  | .hbm, ⟨2, _⟩ => ⟨S4480x5120, .fp8e4m3⟩
  | .hbm, ⟨3, _⟩ => ⟨S5120, .f32⟩
  | .hbm, ⟨4, _⟩ => ⟨S2x4096x5120, .bf16⟩
  | .hbm, ⟨5, _⟩ => ⟨S8192x4480, .fp8e4m3⟩
  | .hbm, ⟨6, _⟩ => ⟨S8192x1, .f32⟩
  | .hbm, ⟨7, _⟩ => ⟨S1x5120, .f32⟩
  | .hbm, ⟨8, _⟩ => ⟨S8192x5120, .bf16⟩
  | .hbm, ⟨9, _⟩ => ⟨S8192x5120, .bf16⟩
  | .hbm, ⟨10, _⟩ => ⟨S2x4096x5120, .bf16⟩
  | .local _ .vmem, ⟨0, _⟩ => ⟨S1024x4480, .fp8e4m3⟩
  | .local _ .vmem, ⟨1, _⟩ => ⟨S1024x4480, .fp8e4m3⟩
  | .local _ .vmem, ⟨2, _⟩ => ⟨S1024x1, .f32⟩
  | .local _ .vmem, ⟨3, _⟩ => ⟨S1024x1, .f32⟩
  | .local _ .vmem, ⟨4, _⟩ => ⟨S4480x2560, .fp8e4m3⟩
  | .local _ .vmem, ⟨5, _⟩ => ⟨S4480x2560, .fp8e4m3⟩
  | .local _ .vmem, ⟨6, _⟩ => ⟨S1x2560, .f32⟩
  | .local _ .vmem, ⟨7, _⟩ => ⟨S1x2560, .f32⟩
  | .local _ .vmem, ⟨8, _⟩ => ⟨S1024x2560, .bf16⟩
  | .local _ .vmem, ⟨9, _⟩ => ⟨S1024x2560, .bf16⟩
  | .local _ .vmem, ⟨10, _⟩ => ⟨S1024x2560, .bf16⟩
  | .local _ .vmem, ⟨11, _⟩ => ⟨S1024x2560, .bf16⟩
  | _, _ => ⟨S2x4096x4480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4480 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4480x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x4096x4480 : Shape := ⟨3, ![2, 4096, 4480]⟩
abbrev S2x4096x1 : Shape := ⟨3, ![2, 4096, 1]⟩
abbrev S4480x5120 : Shape := ⟨2, ![4480, 5120]⟩
abbrev S5120 : Shape := ⟨1, ![5120]⟩
abbrev S2x4096x5120 : Shape := ⟨3, ![2, 4096, 5120]⟩
abbrev S1x1x5120 : Shape := ⟨3, ![1, 1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x4480, .fp8e4m3⟩
  | .hbm, ⟨1, _⟩ => ⟨S2x4096x1, .f32⟩
  | .hbm, ⟨2, _⟩ => ⟨S4480x5120, .fp8e4m3⟩
  | .hbm, ⟨3, _⟩ => ⟨S5120, .f32⟩
  | .hbm, ⟨4, _⟩ => ⟨S2x4096x5120, .bf16⟩
  | .hbm, ⟨5, _⟩ => ⟨S2x4096x5120, .bf16⟩
  | .local _ .vmem, ⟨0, _⟩ => ⟨S2x4096x4480, .fp8e4m3⟩
  | .local _ .vmem, ⟨1, _⟩ => ⟨S2x4096x1, .f32⟩
  | .local _ .vmem, ⟨2, _⟩ => ⟨S4480x5120, .fp8e4m3⟩
  | .local _ .vmem, ⟨3, _⟩ => ⟨S5120, .f32⟩
  | .local _ .vmem, ⟨4, _⟩ => ⟨S2x4096x5120, .bf16⟩
  | .local _ .vmem, ⟨5, _⟩ => ⟨S2x4096x5120, .bf16⟩
  | _, _ => ⟨S2x4096x4480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x4096x4480 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4480x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Payload.lean ====
/-
  What one block of the kernel computes, and what the reference's single step computes, read at an index
  over the extended reals: in both, an element of the matrix product is a sum over the whole inner dimension, times the
  row's scale, times the column's scale, plus the residual.
-/
module

public import proofs.«01_k».proof.Proof.Gen.KernelIdeal.Skeleton
public import proofs.«01_k».proof.Proof.Gen.ReferenceIdeal.Skeleton
public import Idealize.ShloMosaic.PureOps.Ideal
public import Idealize.ShloMosaic.Lib.Pointwise

@[expose] public section

set_option maxRecDepth 16384

noncomputable section

namespace Cert.Payload

open Idealize.ShloMosaic

/-- One block of the kernel at row `r` and column `c` of the block. -/
theorem block_apply (x : Vec Ideal Cert.KernelIdeal.S1024x4480 .fp8e4m3) (w : Vec Ideal Cert.KernelIdeal.S4480x2560 .fp8e4m3)
    (xs : Vec Ideal Cert.KernelIdeal.S1024x1 .f32) (ws : Vec Ideal Cert.KernelIdeal.S1x2560 .f32)
    (res : Vec Ideal Cert.KernelIdeal.S1024x2560 .bf16) (r : Fin 1024) (c : Fin 2560) :
    Cert.KernelIdeal.Gen.k0_pay1 (F := Ideal) x w xs ws res (ix2 r c)
      = (∑ k : Fin 4480, x (ix2 r k) * w (ix2 k c)) * xs (ix2 r 0) * ws (ix2 0 c) + res (ix2 r c) := by
  pointwise [Cert.KernelIdeal.Gen.k0_pay1]

/-- The reference's result at batch `b`, position `s` and column `c`. -/
theorem reference_apply (x : Vec Ideal Cert.ReferenceIdeal.S2x4096x4480 .fp8e4m3) (w : Vec Ideal Cert.ReferenceIdeal.S4480x5120 .fp8e4m3)
    (xs : Vec Ideal Cert.ReferenceIdeal.S2x4096x1 .f32) (ws : Vec Ideal Cert.ReferenceIdeal.S5120 .f32)
    (res : Vec Ideal Cert.ReferenceIdeal.S2x4096x5120 .bf16) (b : Fin 2) (s : Fin 4096) (c : Fin 5120) :
    Cert.ReferenceIdeal.Gen.k0_pay1 (F := Ideal) x w xs ws res (ix3 b s c)
      = (∑ k : Fin 4480, x (ix3 b s k) * w (ix2 k c)) * xs (ix3 b s 0) * ws (ix1 c) + res (ix3 b s c) := by
  pointwise [Cert.ReferenceIdeal.Gen.k0_pay1]

end Cert.Payload

end
-- ==== Proof.KernelArray.lean ====
/-
  What the tiled kernel's arrays hold after the run, over the extended reals: the array that its grid of 16 blocks
  fills is one function of the (reshaped) arguments, index by index, and the result is that array reshaped.
-/
module

public import proofs.«01_k».proof.Proof.Gen.KernelIdeal.Frame
public import proofs.«01_k».proof.Proof.Payload
public import Idealize.ShloMosaic.Lib.Pipeline.Value
public import Idealize.ShloMosaic.Lib.StableHlo.Run

@[expose] public section

set_option maxRecDepth 16384

noncomputable section

namespace Cert.KernelArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The whole [8192, 5120] result as a function of the two-dimensional arrays: the product, scaled by row and by
    column, plus the residual. -/
def linear (x : Vec Ideal S8192x4480 .fp8e4m3) (xs : Vec Ideal S8192x1 .f32) (w : Vec Ideal S4480x5120 .fp8e4m3)
    (ws : Vec Ideal S1x5120 .f32) (res : Vec Ideal S8192x5120 .bf16) : Vec Ideal S8192x5120 .bf16 :=
  fun i => (∑ k : Fin 4480, x (ix2 (i 0) k) * w (ix2 k (i 1))) * xs (ix2 (i 0) 0) * ws (ix2 0 (i 1)) + res i

/-! ## Where each window's block lies in its array -/

/-- Point `t` of the grid is row block `t / 2` and column block `t % 2`: the block index of every window there. -/
theorem idx_facts : ∀ t : Fin cfg0.N,
    (win0_0.index t (0 : Fin 2) = t.val / 2 ∧ win0_0.index t (1 : Fin 2) = 0)
    ∧ (win0_1.index t (0 : Fin 2) = t.val / 2 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = t.val % 2)
    ∧ (win0_4.index t (0 : Fin 2) = t.val / 2 ∧ win0_4.index t (1 : Fin 2) = t.val % 2)
    ∧ (win0_5.index t (0 : Fin 2) = t.val / 2 ∧ win0_5.index t (1 : Fin 2) = t.val % 2) :=
  (by decide +kernel : ∀ t : Fin grid0.N, _)

/-- The grid has 16 points. -/
theorem lt16 (t : Fin cfg0.N) : t.val < 16 := t.isLt.trans_le (by decide)

/-- Row `r` of the row block of point `t`, as a row of the whole array. -/
abbrev row (t : Fin cfg0.N) (r : Fin 1024) : Fin 8192 :=
  ⟨t.val / 2 * 1024 + r.val, by have := lt16 t; omega⟩

/-- Column `c` of the column block of point `t`, as a column of the whole array. -/
abbrev col (t : Fin cfg0.N) (c : Fin 2560) : Fin 5120 :=
  ⟨t.val % 2 * 2560 + c.val, by omega⟩

/-- Window 0's block at `t` is 1024 whole rows of the activations. -/
theorem blk0_apply (c : Dev nD) (t : Fin cfg0.N) (r : Fin 1024) (k : Fin 4480) :
    iblk m c 0 t (ix2 r k) = V m c main_v0 (ix2 (row t r) k) := by
  show V m c main_v0 (((cfg0.win 0).blk t).view.emb (ix2 r k)) = _
  congr 1
  have h := idx_facts t
  funext a; apply Fin.ext
  match a with
  | ⟨0, _⟩ => show win0_0.index t (0 : Fin 2) * 1024 + 1 * r.val = t.val / 2 * 1024 + r.val; omega
  | ⟨1, _⟩ => show win0_0.index t (1 : Fin 2) * 4480 + 1 * k.val = k.val; omega

/-- Window 1's block at `t` is the scales of those rows. -/
theorem blk1_apply (c : Dev nD) (t : Fin cfg0.N) (r : Fin 1024) :
    iblk m c 1 t (ix2 r (0 : Fin 1)) = V m c main_v1 (ix2 (row t r) (0 : Fin 1)) := by
  show V m c main_v1 (((cfg0.win 1).blk t).view.emb (ix2 r (0 : Fin 1))) = _
  congr 1
  have h := idx_facts t
  funext a; apply Fin.ext
  match a with
  | ⟨0, _⟩ => show win0_1.index t (0 : Fin 2) * 1024 + 1 * r.val = t.val / 2 * 1024 + r.val; omega
  | ⟨1, _⟩ => show win0_1.index t (1 : Fin 2) * 1 + 1 * 0 = 0; omega

/-- Window 2's block at `t` is 2560 whole columns of the weights. -/
theorem blk2_apply (c : Dev nD) (t : Fin cfg0.N) (k : Fin 4480) (n : Fin 2560) :
    iblk m c 2 t (ix2 k n) = V m c main_arg2 (ix2 k (col t n)) := by
  show V m c main_arg2 (((cfg0.win 2).blk t).view.emb (ix2 k n)) = _
  congr 1
  have h := idx_facts t
  funext a; apply Fin.ext
  match a with
  | ⟨0, _⟩ => show win0_2.index t (0 : Fin 2) * 4480 + 1 * k.val = k.val; omega
  | ⟨1, _⟩ => show win0_2.index t (1 : Fin 2) * 2560 + 1 * n.val = t.val % 2 * 2560 + n.val; omega

/-- Window 3's block at `t` is the scales of those columns. -/
theorem blk3_apply (c : Dev nD) (t : Fin cfg0.N) (n : Fin 2560) :
    iblk m c 3 t (ix2 (0 : Fin 1) n) = V m c main_v2 (ix2 (0 : Fin 1) (col t n)) := by
  show V m c main_v2 (((cfg0.win 3).blk t).view.emb (ix2 (0 : Fin 1) n)) = _
  congr 1
  have h := idx_facts t
  funext a; apply Fin.ext
  match a with
  | ⟨0, _⟩ => show win0_3.index t (0 : Fin 2) * 1 + 1 * 0 = 0; omega
  | ⟨1, _⟩ => show win0_3.index t (1 : Fin 2) * 2560 + 1 * n.val = t.val % 2 * 2560 + n.val; omega

/-- Window 4's block at `t` is the residual's block of those rows and columns. -/
theorem blk4_apply (c : Dev nD) (t : Fin cfg0.N) (r : Fin 1024) (n : Fin 2560) :
    iblk m c 4 t (ix2 r n) = V m c main_v3 (ix2 (row t r) (col t n)) := by
  show V m c main_v3 (((cfg0.win 4).blk t).view.emb (ix2 r n)) = _
  congr 1
  have h := idx_facts t
  funext a; apply Fin.ext
  match a with
  | ⟨0, _⟩ => show win0_4.index t (0 : Fin 2) * 1024 + 1 * r.val = t.val / 2 * 1024 + r.val; omega
  | ⟨1, _⟩ => show win0_4.index t (1 : Fin 2) * 2560 + 1 * n.val = t.val % 2 * 2560 + n.val; omega

/-- Element `(r, n)` of the output's block at `t` is element `(row t r, col t n)` of the output array. -/
theorem emb5 (t : Fin cfg0.N) (r : Fin 1024) (n : Fin 2560) :
    ((cfg0.win 5).blk t).view.emb (ix2 r n) = ix2 (row t r) (col t n) := by
  have h := idx_facts t
  funext a; apply Fin.ext
  match a with
  | ⟨0, _⟩ => show win0_5.index t (0 : Fin 2) * 1024 + 1 * r.val = t.val / 2 * 1024 + r.val; omega
  | ⟨1, _⟩ => show win0_5.index t (1 : Fin 2) * 2560 + 1 * n.val = t.val % 2 * 2560 + n.val; omega

/-! ## The output array after the run -/

theorem hz : (![0, 0] : Fin 2 → Nat) = fun _ => 0 := funext fun a => by fin_cases a <;> rfl

/-- The one store fills the whole output block, and each load reads a whole input block. -/
theorem out_eq (x0 : Vec Ideal S1024x4480 .fp8e4m3) (x1 : Vec Ideal S1024x1 .f32) (x2 : Vec Ideal S4480x2560 .fp8e4m3)
    (x3 : Vec Ideal S1x2560 .f32) (x4 : Vec Ideal S1024x2560 .bf16) :
    out0_5 (F := Ideal) x0 x1 x2 x3 x4 = k0_pay1 x0 x2 x1 x3 x4 := by
  unfold out0_5
  rw [View.canon_unit_zero hz, View.ld_unit_zero (S := S1024x4480) hz _ x0, View.ld_unit_zero (S := S4480x2560) hz _ x2,
    View.ld_unit_zero (S := S1024x1) hz _ x1, View.ld_unit_zero (S := S1x2560) hz _ x3,
    View.ld_unit_zero (S := S1024x2560) hz _ x4]

/-- The whole output array, of the arrays as the grid finds them. -/
abbrev target (c : Dev nD) : Vec Ideal S8192x5120 .bf16 :=
  linear (V m c main_v0) (V m c main_v1) (V m c main_arg2) (V m c main_v2) (V m c main_v3)

/-- What point `t` writes back is its block of `target`. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5, out_eq]
  funext j
  obtain ⟨r, n, rfl⟩ : ∃ (r : Fin 1024) (n : Fin 2560), j = ix2 r n := ⟨j 0, j 1, eq_ix2 (n0 := 1024) (n1 := 2560) j⟩
  show k0_pay1 (F := Ideal) (iblk m c 0 t) (iblk m c 2 t) (iblk m c 1 t) (iblk m c 3 t) (iblk m c 4 t) (ix2 r n)
    = target m c (((cfg0.win 5).blk t).view.emb (ix2 r n))
  rw [emb5, Cert.Payload.block_apply]
  simp only [blk0_apply, blk2_apply]
  rw [blk1_apply, blk3_apply, blk4_apply]
  rfl

/-- Every index of the output array lies in the block of some point. -/
theorem covered (i : S8192x5120.Idx) :
    ∃ t : Fin cfg0.N, (cfg0.win 5).flush t = true ∧ i ∈ ((cfg0.win 5).blk t).view.set := by
  obtain ⟨a, b, rfl⟩ : ∃ (a : Fin 8192) (b : Fin 5120), i = ix2 a b := ⟨i 0, i 1, eq_ix2 i⟩
  have hN : cfg0.N = 16 := by decide
  let t : Fin cfg0.N := ⟨a.val / 1024 * 2 + b.val / 2560, by omega⟩
  refine ⟨t, flush0_5 t, ?_⟩
  have h := ((cfg0.win 5).blk t).view.emb_mem_set (ix2 (⟨a.val % 1024, by omega⟩ : Fin 1024) (⟨b.val % 2560, by omega⟩ : Fin 2560))
  rw [emb5] at h
  have e0 : row t ⟨a.val % 1024, by omega⟩ = a := Fin.ext (by
    show (a.val / 1024 * 2 + b.val / 2560) / 2 * 1024 + a.val % 1024 = a.val; omega)
  have e1 : col t ⟨b.val % 2560, by omega⟩ = b := Fin.ext (by
    show (a.val / 1024 * 2 + b.val / 2560) % 2 * 2560 + b.val % 2560 = b.val; omega)
  rwa [e0, e1] at h

/-- So the output array of the grid ends as `target`. -/
theorem final (c : Dev nD) : (dats m 0 c).arrAt 5 cfg0.N = target m c :=
  (dats m 0 c).arrAt_eq_of_cover 5 (target m c) (fun t _ => flushed_eq m c t) covered

/-! ## The reshapes around the grid -/

/-- The activations as the grid finds them: the argument with its two leading axes merged. -/
theorem V_v0 (c : Dev nD) : V m c main_v0
    = shapeCast S8192x4480 (m ((c : Thread nD τ).loc main_arg0)) shapeCasts_S2x4096x4480_S8192x4480 := by
  unfold V V0; simp only [hostOps0, List.flatten_cons, List.flatten_nil, List.append_nil]
  after_results
  rfl

/-- The row scales as the grid finds them. -/
theorem V_v1 (c : Dev nD) : V m c main_v1
    = shapeCast S8192x1 (m ((c : Thread nD τ).loc main_arg1)) shapeCasts_S2x4096x1_S8192x1 := by
  unfold V V0; simp only [hostOps0, List.flatten_cons, List.flatten_nil, List.append_nil]
  after_results
  rfl

/-- The column scales as the grid finds them: one row. -/
theorem V_v2 (c : Dev nD) : V m c main_v2
    = shapeCast S1x5120 (m ((c : Thread nD τ).loc main_arg3)) shapeCasts_S5120_S1x5120 := by
  unfold V V0; simp only [hostOps0, List.flatten_cons, List.flatten_nil, List.append_nil]
  after_results
  rfl

/-- The residual as the grid finds it. -/
theorem V_v3 (c : Dev nD) : V m c main_v3
    = shapeCast S8192x5120 (m ((c : Thread nD τ).loc main_arg4)) shapeCasts_S2x4096x5120_S8192x5120 := by
  unfold V V0; simp only [hostOps0, List.flatten_cons, List.flatten_nil, List.append_nil]
  after_results
  rfl

/-- The result buffer, after the last reshape. -/
theorem W_v5 (c : Dev nD) :
    Pipeline.afterTail₀ cfgs (dats m) 0 (V0 m) [hostOps1] c main_v5
      = shapeCast S2x4096x5120 (target m c) shapeCasts_S8192x5120_S2x4096x5120 := by
  unfold Pipeline.afterTail₀
  simp only [hostOps1, List.flatten_cons, List.flatten_nil, List.append_nil]
  after_results
  rw [Pipeline.withArrays_arr (cfgs 0).spec winFacts0.arr_inj c (V0 m c) _ 5, final]
  rfl

/-! ## The run, read -/

/-- The kernel's run: the result is `target` reshaped, the arguments are unchanged. -/
theorem run : θ_run defs (onTc (τ := τ) (main (F := Ideal))) ⟨m, fun _ => 0, ρ⟩ fun r => ∀ c : Dev nD,
      r.2.mem ((c : Thread nD τ).loc main_v5) = shapeCast S2x4096x5120 (target m c) shapeCasts_S8192x5120_S2x4096x5120
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h.1 c).trans (W_v5 m c), h.2 c⟩)
    (θ_run_and
      ((θ_run defs _ _).mono (fun _ h c => (h c).2 main_v5 (Pipeline.mem_restRefs_of main_v5 (by decide) (by decide)))
        (run_main m ρ))
      (unchanged m ρ))

end Cert.KernelArray

end
-- ==== Proof.Equal.lean ====
/-
  The equation between the two programs over the extended reals: the tiled kernel's result, an array of 8192 rows
  reshaped to two batches of 4096, is the reference's result on the three-dimensional arguments.
-/
module

public import proofs.«01_k».proof.Proof.KernelArray
public import proofs.«01_k».proof.Proof.Gen.ReferenceIdeal.Value

@[expose] public section

set_option maxRecDepth 16384

noncomputable section

namespace Cert.Equal

open Cert.KernelIdeal Cert.KernelIdeal.Gen Idealize.ShloMosaic

/-- `linear` of the arguments reshaped to two dimensions, reshaped back to three, is the reference's function of the
    arguments themselves: row `4096 b + s` of the flat arrays is position `s` of batch `b`. -/
theorem linear_eq
    (x : Vec Ideal S2x4096x4480 .fp8e4m3) (xs : Vec Ideal S2x4096x1 .f32)
    (w : Vec Ideal S4480x5120 .fp8e4m3) (ws : Vec Ideal S5120 .f32) (res : Vec Ideal S2x4096x5120 .bf16) :
    shapeCast S2x4096x5120
        (Cert.KernelArray.linear (shapeCast S8192x4480 x shapeCasts_S2x4096x4480_S8192x4480)
          (shapeCast S8192x1 xs shapeCasts_S2x4096x1_S8192x1) w
          (shapeCast S1x5120 ws shapeCasts_S5120_S1x5120)
          (shapeCast S8192x5120 res shapeCasts_S2x4096x5120_S8192x5120))
        shapeCasts_S8192x5120_S2x4096x5120
      = Cert.ReferenceIdeal.Value.G5 (F := Ideal) x xs w ws res := by
  funext i
  obtain ⟨b, s, c, rfl⟩ : ∃ (b : Fin 2) (s : Fin 4096) (c : Fin 5120), i = ix3 b s c := ⟨i 0, i 1, i 2, eq_ix3 i⟩
  show _ = Cert.ReferenceIdeal.Gen.k0_pay1 (F := Ideal) x w xs ws res (ix3 b s c)
  rw [Cert.Payload.reference_apply]
  pointwise [Cert.KernelArray.linear]

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Payload
public import proofs.«01_k».proof.Proof.KernelArray
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All five claims. The three frames are those of the generated modules; no operation was rewritten, so the ideal
    program is the kernel; and the two results are equal because the kernel's array, reshaped, is the reference's
    function of arguments that agree. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  by
    intro m ρ m' ρ' _ hagree
    refine ⟨_, Cert.KernelArray.run m ρ, ?_⟩
    refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := hagree c
    rw [e0, e1, e2, e3, e4]
    unfold Cert.KernelArray.target
    rw [Cert.KernelArray.V_v0, Cert.KernelArray.V_v1, Cert.KernelArray.V_v2, Cert.KernelArray.V_v3,
      Cert.KernelIdeal.Gen.V_main_arg2]
    exact (Cert.Equal.linear_eq _ _ _ _ _).symm⟩

end Cert.Proof

end
